-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x13184 : Shape := ⟨3, ![256, 1, 13184]⟩
abbrev S3296x23808 : Shape := ⟨2, ![3296, 23808]⟩
abbrev S_ : Shape := ⟨0, ![]⟩
abbrev S1 : Shape := ⟨1, ![1]⟩
abbrev S256x13184 : Shape := ⟨2, ![256, 13184]⟩
abbrev S256x23808 : Shape := ⟨2, ![256, 23808]⟩
abbrev S3296x768 : Shape := ⟨2, ![3296, 768]⟩
abbrev S256x768 : Shape := ⟨2, ![256, 768]⟩
abbrev S32x768 : Shape := ⟨2, ![32, 768]⟩
abbrev S8x768 : Shape := ⟨2, ![8, 768]⟩
abbrev S256x256 : Shape := ⟨2, ![256, 256]⟩
abbrev S128x768 : Shape := ⟨2, ![128, 768]⟩
abbrev S256x128 : Shape := ⟨2, ![256, 128]⟩
abbrev S256x1x23808 : Shape := ⟨3, ![256, 1, 23808]⟩

abbrev nBuf : Space → Nat
  | .hbm => 7
  | .vmem => 5
  | .smem => 1
  | _ => 0

abbrev bufTy : (tb : Table) → Fin (tcTables nBuf tb) → BufTy
  | .hbm, ⟨0, _⟩ => ⟨S256x1x13184, .bf16⟩
  | .hbm, ⟨1, _⟩ => ⟨S3296x23808, .i8⟩
  | .hbm, ⟨2, _⟩ => ⟨S_, .f32⟩
  | .hbm, ⟨3, _⟩ => ⟨S1, .f32⟩
  | .hbm, ⟨4, _⟩ => ⟨S256x13184, .bf16⟩
  | .hbm, ⟨5, _⟩ => ⟨S256x23808, .bf16⟩
  | .hbm, ⟨6, _⟩ => ⟨S256x1x23808, .bf16⟩
  | .local _ .vmem, ⟨0, _⟩ => ⟨S256x13184, .bf16⟩
  | .local _ .vmem, ⟨1, _⟩ => ⟨S3296x768, .i8⟩
  | .local _ .vmem, ⟨2, _⟩ => ⟨S3296x768, .i8⟩
  | .local _ .vmem, ⟨3, _⟩ => ⟨S256x768, .bf16⟩
  | .local _ .vmem, ⟨4, _⟩ => ⟨S256x768, .bf16⟩
  | .local _ .smem, ⟨0, _⟩ => ⟨S1, .f32⟩
  | _, _ => ⟨S256x1x13184, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![31], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x13184 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3296x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x13184 : Shape := ⟨3, ![256, 1, 13184]⟩
abbrev S3296x23808 : Shape := ⟨2, ![3296, 23808]⟩
abbrev S_ : Shape := ⟨0, ![]⟩
abbrev S256x1x3296 : Shape := ⟨3, ![256, 1, 3296]⟩
abbrev S256x1x23808 : Shape := ⟨3, ![256, 1, 23808]⟩

abbrev nBuf : Space → Nat
  | .hbm => 58
  | .vmem => 0
  | .smem => 0
  | _ => 0

abbrev bufTy : (tb : Table) → Fin (tcTables nBuf tb) → BufTy
  | .hbm, ⟨0, _⟩ => ⟨S256x1x13184, .bf16⟩
  | .hbm, ⟨1, _⟩ => ⟨S3296x23808, .i8⟩
  | .hbm, ⟨2, _⟩ => ⟨S_, .f32⟩
  | .hbm, ⟨3, _⟩ => ⟨S3296x23808, .i32⟩
  | .hbm, ⟨4, _⟩ => ⟨S_, .i32⟩
  | .hbm, ⟨5, _⟩ => ⟨S3296x23808, .i32⟩
  | .hbm, ⟨6, _⟩ => ⟨S3296x23808, .i32⟩
  | .hbm, ⟨7, _⟩ => ⟨S_, .i32⟩
  | .hbm, ⟨8, _⟩ => ⟨S3296x23808, .i32⟩
  | .hbm, ⟨9, _⟩ => ⟨S3296x23808, .i32⟩
  | .hbm, ⟨10, _⟩ => ⟨S3296x23808, .bf16⟩
  | .hbm, ⟨11, _⟩ => ⟨S_, .bf16⟩
  | .hbm, ⟨12, _⟩ => ⟨S3296x23808, .bf16⟩
  | .hbm, ⟨13, _⟩ => ⟨S3296x23808, .bf16⟩
  | .hbm, ⟨14, _⟩ => ⟨S256x1x3296, .bf16⟩
  | .hbm, ⟨15, _⟩ => ⟨S256x1x23808, .f32⟩
  | .hbm, ⟨16, _⟩ => ⟨S_, .i32⟩
  | .hbm, ⟨17, _⟩ => ⟨S3296x23808, .i32⟩
  | .hbm, ⟨18, _⟩ => ⟨S3296x23808, .i32⟩
  | .hbm, ⟨19, _⟩ => ⟨S_, .i32⟩
  | .hbm, ⟨20, _⟩ => ⟨S3296x23808, .i32⟩
  | .hbm, ⟨21, _⟩ => ⟨S3296x23808, .i32⟩
  | .hbm, ⟨22, _⟩ => ⟨S3296x23808, .bf16⟩
  | .hbm, ⟨23, _⟩ => ⟨S_, .bf16⟩
  | .hbm, ⟨24, _⟩ => ⟨S3296x23808, .bf16⟩
  | .hbm, ⟨25, _⟩ => ⟨S3296x23808, .bf16⟩
  | .hbm, ⟨26, _⟩ => ⟨S256x1x3296, .bf16⟩
  | .hbm, ⟨27, _⟩ => ⟨S256x1x23808, .f32⟩
  | .hbm, ⟨28, _⟩ => ⟨S256x1x23808, .f32⟩
  | .hbm, ⟨29, _⟩ => ⟨S_, .i32⟩
  | .hbm, ⟨30, _⟩ => ⟨S3296x23808, .i32⟩
  | .hbm, ⟨31, _⟩ => ⟨S3296x23808, .i32⟩
  | .hbm, ⟨32, _⟩ => ⟨S_, .i32⟩
  | .hbm, ⟨33, _⟩ => ⟨S3296x23808, .i32⟩
  | .hbm, ⟨34, _⟩ => ⟨S3296x23808, .i32⟩
  | .hbm, ⟨35, _⟩ => ⟨S3296x23808, .bf16⟩
  | .hbm, ⟨36, _⟩ => ⟨S_, .bf16⟩
  | .hbm, ⟨37, _⟩ => ⟨S3296x23808, .bf16⟩
  | .hbm, ⟨38, _⟩ => ⟨S3296x23808, .bf16⟩
  | .hbm, ⟨39, _⟩ => ⟨S256x1x3296, .bf16⟩
  | .hbm, ⟨40, _⟩ => ⟨S256x1x23808, .f32⟩
  | .hbm, ⟨41, _⟩ => ⟨S256x1x23808, .f32⟩
  | .hbm, ⟨42, _⟩ => ⟨S_, .i32⟩
  | .hbm, ⟨43, _⟩ => ⟨S3296x23808, .i32⟩
  | .hbm, ⟨44, _⟩ => ⟨S3296x23808, .i32⟩
  | .hbm, ⟨45, _⟩ => ⟨S_, .i32⟩
  | .hbm, ⟨46, _⟩ => ⟨S3296x23808, .i32⟩
  | .hbm, ⟨47, _⟩ => ⟨S3296x23808, .i32⟩
  | .hbm, ⟨48, _⟩ => ⟨S3296x23808, .bf16⟩
  | .hbm, ⟨49, _⟩ => ⟨S_, .bf16⟩
  | .hbm, ⟨50, _⟩ => ⟨S3296x23808, .bf16⟩
  | .hbm, ⟨51, _⟩ => ⟨S3296x23808, .bf16⟩
  | .hbm, ⟨52, _⟩ => ⟨S256x1x3296, .bf16⟩
  | .hbm, ⟨53, _⟩ => ⟨S256x1x23808, .f32⟩
  | .hbm, ⟨54, _⟩ => ⟨S256x1x23808, .f32⟩
  | .hbm, ⟨55, _⟩ => ⟨S256x1x23808, .f32⟩
  | .hbm, ⟨56, _⟩ => ⟨S256x1x23808, .f32⟩
  | .hbm, ⟨57, _⟩ => ⟨S256x1x23808, .bf16⟩
  | _, _ => ⟨S256x1x13184, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Block.lean ====
/- What the kernel's body stores at one point of the grid, as a term over the contents of its three input windows:
   52 tiles of the contracted axis, each the activations' columns times the unpacked weights' rows, added first to last,
   scaled and rounded. -/
module

public import proofs.«01_k».proof.Proof.Gen.KernelIdeal.Frame
public import Idealize.ShloMosaic.Lib.Pipeline.ValueKit
public import Idealize.ShloMosaic.Lib.Tactic

@[expose] public section

set_option maxRecDepth 65536

noncomputable section

namespace Cert.KernelIdeal.Block

open Cert.KernelIdeal Cert.KernelIdeal.Gen Idealize.ShloMosaic Idealize.ShloMosaic.TcCoe Idealize.SL.Sem

variable {F : FTy → Type} [FloatOps F]

/-- The 32 rows of packed bytes that piece `g` is read from lie inside the window. -/
theorem inbW (g : ℕ) : ∀ a, (![32 * (g % 103), 0] : Fin 2 → Nat) a + S32x768.size a ≤ S3296x768.size a := fun a => by
  have := Nat.mod_lt g (by decide : 0 < 103)
  match a with
  | ⟨0, _⟩ => show 32 * (g % 103) + 32 ≤ 3296; omega
  | ⟨1, _⟩ => show 0 + 768 ≤ 768; omega

/-- The 256 columns of activations that tile `n` is multiplied with lie inside the window. -/
theorem inbX (n : ℕ) : ∀ a, (![0, 256 * (n % 51)] : Fin 2 → Nat) a + S256x256.size a ≤ S256x13184.size a := fun a => by
  have := Nat.mod_lt n (by decide : 0 < 51)
  match a with
  | ⟨0, _⟩ => show 0 + 256 ≤ 256; omega
  | ⟨1, _⟩ => show 256 * (n % 51) + 256 ≤ 13184; omega

/-- The 128 columns of activations that the last tile is multiplied with lie inside the window. -/
theorem inbXlast : ∀ a, (![0, 13056] : Fin 2 → Nat) a + S256x128.size a ≤ S256x13184.size a := by decide

/-- The 32 rows of packed bytes that piece `g` of the weights is read from. -/
def rows (w : Vec F S3296x768 .i8) (g : ℕ) : Vec F S32x768 .i8 :=
  View.ld w (Rect.unit (s := S3296x768) ![32 * (g % 103), 0] S32x768.size (inbW g))

/-- Piece `g` of the weights, 32 rows of the contracted axis. -/
def piece (w : Vec F S3296x768 .i8) (g : ℕ) : FVec F S32x768 .bf16 :=
  sitofp .bf16 (bitcast S32x768 8
    (xori (addi (andi (shrui (bitcast S8x768 32 (rows w g) bitcasts_S32x768_w8_S8x768_w32)
      (broadcast S8x768 (BitVec.ofNat 32 (2 * (g / 103))))) (broadcast S8x768 50529027#32))
      (broadcast S8x768 2139062143#32)) (broadcast S8x768 2155905152#32)) bitcasts_S8x768_w32_S32x768_w8)

/-- Tile `n` of the weights: its eight pieces one under another, 256 rows of the contracted axis. -/
def tileW (w : Vec F S3296x768 .i8) (n : ℕ) : FVec F S256x768 .bf16 :=
  concatenate S256x768 0 (List.ofFn fun k : Fin 8 => ⟨S32x768, piece w (8 * n + k.val)⟩)
    concatenates_S32x768_S32x768_S32x768_S32x768_S32x768_S32x768_S32x768_S32x768_S256x768_d0

/-- The last tile of the weights: the remaining four pieces, 128 rows of the contracted axis. -/
def lastW (w : Vec F S3296x768 .i8) : FVec F S128x768 .bf16 :=
  concatenate S128x768 0 (List.ofFn fun k : Fin 4 => ⟨S32x768, piece w (408 + k.val)⟩)
    concatenates_S32x768_S32x768_S32x768_S32x768_S128x768_d0

/-- What tile `n` contributes: its columns of the activations times its rows of the weights, into zeros. -/
def part (x : Vec F S256x13184 .bf16) (w : Vec F S3296x768 .i8) (n : ℕ) : FVec F S256x768 .f32 :=
  matmul dot_S256x256_S256x768_S256x768_1_0_0_1_n_n none
    (shapeCast S256x256 (View.ld x (Rect.unit (s := S256x13184) ![0, 256 * (n % 51)] S256x256.size (inbX n)))
      shapeCasts_S256x256_S256x256) (tileW w n) (constant S256x768 .f32 0x00000000#32)

/-- What the last, half as long, tile contributes. -/
def lastPart (x : Vec F S256x13184 .bf16) (w : Vec F S3296x768 .i8) : FVec F S256x768 .f32 :=
  matmul dot_S256x128_S128x768_S256x768_1_0_0_1_n_n none
    (shapeCast S256x128 (View.ld x (Rect.unit (s := S256x13184) ![0, 13056] S256x128.size inbXlast))
      shapeCasts_S256x128_S256x128) (lastW w) (constant S256x768 .f32 0x00000000#32)

/-- The running sum of the contributions of tiles `0` to `n`, added first to last. -/
def acc (x : Vec F S256x13184 .bf16) (w : Vec F S3296x768 .i8) : ℕ → FVec F S256x768 .f32
  | 0 => part x w 0
  | n + 1 => addf (acc x w n) (part x w (n + 1))

/-- The block the body stores: all 52 contributions, scaled and rounded to `bf16`. -/
def block (s : Elt F .f32) (x : Vec F S256x13184 .bf16) (w : Vec F S3296x768 .i8) : FVec F S256x768 .bf16 :=
  truncf .bf16 (mulf (addf (acc x w 50) (lastPart x w))
    (broadcast S256x768 s)) bitsLt_bf16_f32

/-- The block that the run of the body leaves in the output window is `block` of the contents of the input windows. -/
theorem out_eq (c : Dev nD) (i : grid0.Coords) (arg1 : Memref sig .tc .smem S1 .f32) (harg1 : arg1.IsWhole)
    (arg2 : Memref sig .tc .vmem S256x13184 .bf16) (harg2 : arg2.IsWhole) (arg3 : Memref sig .tc .vmem S3296x768 .i8)
    (harg3 : arg3.IsWhole) (arg4 : Memref sig .tc .vmem S256x768 .bf16) (harg4 : arg4.IsWhole)
    (x0 : Vec F S1 .f32) (x1 : Vec F S256x13184 .bf16) (x2 : Vec F S3296x768 .i8) :
    out0_A_3 c i arg1 harg1 arg2 harg2 arg3 harg3 arg4 harg4 x0 x1 x2 = block (x0 (ValueIdx.ix1 0)) x1 x2 := by
  unfold out0_A_3
  rw [View.read_writes_eq_canon _ _ _ (cover0_A_3 c i arg1 harg1 arg2 harg2 arg3 harg3 arg4 harg4 x0 x1 x2)]
  frame_out
  refine Eq.trans (b := block (View.ld x0 (Rect.unit (s := S1) ![0] S1.size inb_S1_S1_0) (Shape.Idx.first (by decide))) x1 x2) ?_ ?_
  · sl_kernel_rfl
  · exact congrArg (fun i => block (x0 i) x1 x2) (funext fun a => match a with | ⟨0, _⟩ => Subsingleton.elim (α := Fin 1) _ _)

end Cert.KernelIdeal.Block

end
-- ==== Proof.Bytes.lean ====
/- The two-bit fields of a byte, and the kernel's way of unpacking four bytes at once inside a 32-bit word. -/
module

public import Idealize.ShloMosaic.PureOps.Ideal
public import Mathlib.Tactic.IntervalCases

@[expose] public section

set_option maxRecDepth 16384

noncomputable section

namespace Cert.Bytes

/-! ## One byte -/

/-- Two-bit field `f` of a byte. -/
def field (b : BitVec 8) (f : ℕ) : BitVec 8 := (b >>> (2 * f)) &&& 3#8

/-- The weight that two-bit field `f` of a byte stands for: the field less one. -/
def trit (b : BitVec 8) (f : ℕ) : EReal := (((field b f).toNat : ℝ) - 1 : ℝ)

/-- A two-bit field is below four. -/
theorem field_lt (b : BitVec 8) (f : ℕ) : (field b f).toNat < 4 := by
  unfold field
  rw [BitVec.toNat_and]
  exact Nat.lt_of_le_of_lt Nat.and_le_right (by decide)

/-- Adding `0x7F` to a field and flipping the sign bit leaves, read signed, the field less one. -/
theorem toInt_field (b : BitVec 8) (f : ℕ) : ((field b f + 0x7F#8) ^^^ 0x80#8).toInt = ((field b f).toNat : ℤ) - 1 := by
  have h := field_lt b f
  generalize field b f = v at h
  revert v
  decide +kernel

/-- The field taken from the byte widened to a word is the same number. -/
theorem toNat_field_wide (b : BitVec 8) (f : ℕ) (hf : f < 4) :
    ((b.setWidth 32 >>> (2 * f)) &&& 3#32).toNat = (field b f).toNat := by
  unfold field
  rw [BitVec.toNat_and, BitVec.toNat_and, BitVec.toNat_ushiftRight, BitVec.toNat_ushiftRight, BitVec.toNat_setWidth,
    Nat.mod_eq_of_lt (lt_trans b.isLt (by decide))]
  rfl

/-! ## Four bytes in a word -/

/-- Byte `k` of a word. -/
abbrev byte (W : BitVec 32) (k : ℕ) : BitVec 8 := W.extractLsb' (8 * k) 8

/-- Byte `k` of a word as a number. -/
theorem toNat_byte (W : BitVec 32) (k : ℕ) : (byte W k).toNat = W.toNat / 2 ^ (8 * k) % 256 := by
  rw [BitVec.extractLsb'_toNat, Nat.shiftRight_eq_div_pow]

/-- Shifting and masking a word takes field `f` of each of its bytes: what a shift brings in from the byte above is masked off. -/
theorem byte_mask (W : BitVec 32) (f : ℕ) (hf : f < 4) (k : ℕ) (hk : k < 4) :
    byte ((W >>> (2 * f)) &&& 50529027#32) k = field (byte W k) f := by
  apply BitVec.eq_of_getLsbD_eq
  intro i hi
  unfold field
  simp only [BitVec.getLsbD_extractLsb', BitVec.getLsbD_and, BitVec.getLsbD_ushiftRight, hi, decide_true, Bool.true_and]
  interval_cases f <;> interval_cases k <;> interval_cases i <;> simp

/-- Adding `0x7F` to every byte of a word made of four values below four adds it within each byte: every case decided. -/
theorem byte_add_small : ∀ v0 v1 v2 v3 k : Fin 4,
    byte (BitVec.ofNat 32 (v0.val + 256 * v1.val + 65536 * v2.val + 16777216 * v3.val) + 2139062143#32) k.val
      = byte (BitVec.ofNat 32 (v0.val + 256 * v1.val + 65536 * v2.val + 16777216 * v3.val)) k.val + 0x7F#8 := by
  decide +kernel

/-- A word is made of its four bytes. -/
theorem word_eq_bytes (V : BitVec 32) :
    V = BitVec.ofNat 32 ((byte V 0).toNat + 256 * (byte V 1).toNat + 65536 * (byte V 2).toNat + 16777216 * (byte V 3).toNat) := by
  apply BitVec.eq_of_toNat_eq
  simp only [toNat_byte, BitVec.toNat_ofNat]
  have hV : V.toNat < 4294967296 := V.isLt
  generalize V.toNat = n at *
  norm_num
  omega

/-- Adding `0x7F` to every byte of a word whose bytes are below four carries into no other byte. -/
theorem byte_add (V : BitVec 32) (h : ∀ k < 4, (byte V k).toNat < 4) (k : ℕ) (hk : k < 4) :
    byte (V + 2139062143#32) k = byte V k + 0x7F#8 := by
  have := byte_add_small ⟨_, h 0 (by decide)⟩ ⟨_, h 1 (by decide)⟩ ⟨_, h 2 (by decide)⟩ ⟨_, h 3 (by decide)⟩ ⟨k, hk⟩
  dsimp only at this
  rwa [← word_eq_bytes] at this

/-- Flipping the sign bit of every byte of a word flips it within each byte. -/
theorem byte_xor (V : BitVec 32) (k : ℕ) (hk : k < 4) : byte (V ^^^ 2155905152#32) k = byte V k ^^^ 0x80#8 := by
  apply BitVec.eq_of_getLsbD_eq
  intro i hi
  simp only [BitVec.getLsbD_extractLsb', BitVec.getLsbD_xor, hi, decide_true, Bool.true_and]
  interval_cases k <;> interval_cases i <;> simp

/-- The kernel's arithmetic on a word, read at byte `k`: the field of that byte, plus `0x7F`, its sign bit flipped. -/
theorem byte_trits (W : BitVec 32) (f : ℕ) (hf : f < 4) (k : ℕ) (hk : k < 4) :
    byte ((((W >>> (2 * f)) &&& 50529027#32) + 2139062143#32) ^^^ 2155905152#32) k
      = (field (byte W k) f + 0x7F#8) ^^^ 0x80#8 := by
  rw [byte_xor _ _ hk, byte_add _ (fun k hk => by rw [byte_mask W f hf k hk]; exact field_lt _ _) k hk, byte_mask W f hf k hk]

end Cert.Bytes

end
-- ==== Proof.Trits.lean ====
/- The block the body stores, read at one index over the extended reals: the unpacked weights are the packed bytes'
   fields less one, and the 52 tiles' contributions are one sum of 13184 products. -/
module

public import proofs.«01_k».proof.Proof.Block
public import proofs.«01_k».proof.Proof.Bytes
public import Idealize.ShloMosaic.Lib.Pointwise
public import Idealize.ShloMosaic.Lib.BitcastFour

@[expose] public section

set_option maxRecDepth 16384

noncomputable section

namespace Cert.KernelIdeal.Block

open Cert.KernelIdeal Cert.KernelIdeal.Gen Idealize.ShloMosaic Idealize.ShloMosaic.TcCoe Idealize.SL.Sem
open Cert.Bytes

/-! ## Words and bytes of a block of 32 rows -/

/-- A byte of a block of words read as bytes: row `r` is byte `r % 4` of word row `r / 4`. -/
theorem bitcast_byte (y : IVec S8x768 32) (h : S8x768.Bitcasts 32 S32x768 8) (r : Fin 32) (j : Fin 768) (a : Fin 8)
    (ha : a.val = r.val / 4) :
    bitcast S32x768 8 y h (ValueIdx.ix2 r j) = byte (y (ValueIdx.ix2 a j)) (r.val % 4) := by
  apply BitVec.eq_of_getLsbD_eq
  intro i hi
  rw [bitcast_getLsbD y h _ i hi (by decide), BitVec.getLsbD_extractLsb']
  have hrow : S32x768.row (ValueIdx.ix2 r j) = r.val := rfl
  have e : (S32x768.row (ValueIdx.ix2 r j) * 8 + i) % 32 = 8 * (r.val % 4) + i := by omega
  rw [e, decide_eq_true hi, Bool.true_and]
  congr 2
  funext c
  match c with
  | ⟨0, _⟩ => exact Fin.ext ((h.srcIdx_row _ _ _ ⟨0, Nat.zero_lt_two⟩ rfl).trans (by show (r.val * 8 + i) / 32 = a.val; omega))
  | ⟨1, _⟩ => exact Fin.ext (h.srcIdx_other _ _ _ ⟨1, Nat.one_lt_two⟩ (by show ¬ 1 + 2 = 2; omega))

/-- A block of bytes read as words: byte `k` of word row `a` is row `4 a + k`. -/
theorem byte_bitcast (x : S32x768.Idx → BitVec 8) (h : S32x768.Bitcasts 8 S8x768 32) (a : Fin 8) (j : Fin 768) (k : ℕ) (hk : k < 4)
    (r : Fin 32) (hr : r.val = 4 * a.val + k) :
    byte (bitcast S8x768 32 x h (ValueIdx.ix2 a j)) k = x (ValueIdx.ix2 r j) := by
  apply BitVec.eq_of_getLsbD_eq
  intro i hi
  rw [BitVec.getLsbD_extractLsb', decide_eq_true hi, Bool.true_and,
    bitcast_8_32_getLsbD_ix2 x h a j (8 * k + i) (by omega) r (by omega)]
  congr 1
  omega

/-- A right shift by an amount below the width is the shift of the word. -/
theorem shrui_ofNat (u : ArithUnit) (W : BitVec 32) (n : ℕ) (hn : n < 32) : IntOp.shrui u W (BitVec.ofNat 32 n) = W >>> n := by
  have e : (BitVec.ofNat 32 n).toNat = n := by rw [BitVec.toNat_ofNat]; omega
  unfold IntOp.shrui
  rw [e, if_pos hn]
  show W >>> (BitVec.ofNat 32 n).toNat = _
  rw [e]

/-- Piece `g` of the weights, read at row `r` and column `j`: the weight that field `g / 103` of the packed byte at row
    `32 (g % 103) + r` stands for. -/
theorem piece_at (w : Vec Ideal S3296x768 .i8) (g : ℕ) (hg : g < 412) (r : Fin 32) (j : Fin 768) (p : Fin 3296)
    (hp : p.val = 32 * (g % 103) + r.val) :
    piece w g (ValueIdx.ix2 r j) = trit (w (ValueIdx.ix2 p j)) (g / 103) := by
  have hf : g / 103 < 4 := by omega
  unfold piece
  rw [ValueIdx.sitofp_apply, bitcast_byte _ _ r j ⟨r.val / 4, by omega⟩ rfl]
  show (((byte ((((IntOp.shrui .vector (bitcast S8x768 32 (rows w g) _ (ValueIdx.ix2 _ j)) (BitVec.ofNat 32 (2 * (g / 103)))) &&&
    50529027#32) + 2139062143#32) ^^^ 2155905152#32) (r.val % 4)).toInt : ℝ) : EReal) = _
  rw [shrui_ofNat _ _ _ (by omega), byte_trits _ _ hf _ (by omega), toInt_field,
    byte_bitcast _ _ _ _ _ (by omega) r (by dsimp only; omega)]
  have e : rows w g (ValueIdx.ix2 r j) = w (ValueIdx.ix2 p j) := by
    unfold rows
    rw [View.ld_apply]
    congr 1
    funext c
    match c with
    | ⟨0, _⟩ => exact Fin.ext (by show 32 * (g % 103) + 1 * r.val = p.val; omega)
    | ⟨1, _⟩ => exact Fin.ext (by show 0 + 1 * j.val = j.val; omega)
  rw [e]
  unfold trit
  push_cast
  rfl

/-- Tile `n` of the weights, read at row `k` and column `j`: with `K = 256 n + k`, the weight that field `K / 3296` of the
    packed byte at row `K % 3296` stands for. -/
theorem tileW_at (w : Vec Ideal S3296x768 .i8) (n : ℕ) (hn : n < 51) (k : Fin 256) (j : Fin 768) (p : Fin 3296)
    (hp : p.val = (256 * n + k.val) % 3296) :
    tileW w n (ValueIdx.ix2 k j) = trit (w (ValueIdx.ix2 p j)) ((256 * n + k.val) / 3296) := by
  unfold tileW
  refine (concatenate_ofFn_apply (s₁ := S32x768) (t := S256x768) (0 : Fin 2) (fun k : Fin 8 => piece w (8 * n + k.val)) _ rfl 32 rfl
    (ValueIdx.ix2 k j) ⟨k.val / 32, by omega⟩ rfl (ValueIdx.ix2 ⟨k.val % 32, Nat.mod_lt _ (by decide)⟩ j) rfl
    (fun b hb => match b with | ⟨0, _⟩ => absurd rfl hb | ⟨1, _⟩ => rfl)).trans ?_
  rw [piece_at w _ (by dsimp only; omega) _ j p (by dsimp only; omega)]
  congr 1
  dsimp only
  omega

/-- The last tile of the weights likewise, `K = 13056 + k`. -/
theorem lastW_at (w : Vec Ideal S3296x768 .i8) (k : Fin 128) (j : Fin 768) (p : Fin 3296)
    (hp : p.val = (13056 + k.val) % 3296) :
    lastW w (ValueIdx.ix2 k j) = trit (w (ValueIdx.ix2 p j)) ((13056 + k.val) / 3296) := by
  unfold lastW
  refine (concatenate_ofFn_apply (s₁ := S32x768) (t := S128x768) (0 : Fin 2) (fun k : Fin 4 => piece w (408 + k.val)) _ rfl 32 rfl
    (ValueIdx.ix2 k j) ⟨k.val / 32, by omega⟩ rfl (ValueIdx.ix2 ⟨k.val % 32, Nat.mod_lt _ (by decide)⟩ j) rfl
    (fun b hb => match b with | ⟨0, _⟩ => absurd rfl hb | ⟨1, _⟩ => rfl)).trans ?_
  rw [piece_at w _ (by dsimp only; omega) _ j p (by dsimp only; omega)]
  congr 1
  dsimp only
  omega

/-! ## The block as one sum -/

/-- The product at position `K` of the contracted axis, for row `i` and column `j` of a block. -/
def term (x : Vec Ideal S256x13184 .bf16) (w : Vec Ideal S3296x768 .i8) (i : Fin 256) (j : Fin 768) (K : ℕ) : EReal :=
  (show EReal from x (ValueIdx.ix2 i ⟨K % 13184, Nat.mod_lt _ (by decide)⟩))
    * trit (w (ValueIdx.ix2 ⟨K % 3296, Nat.mod_lt _ (by decide)⟩ j)) (K / 3296)

/-- What tile `n` contributes, read at an index: the products at its 256 positions, summed. -/
theorem part_at (x : Vec Ideal S256x13184 .bf16) (w : Vec Ideal S3296x768 .i8) (n : ℕ) (hn : n < 51) (i : Fin 256) (j : Fin 768) :
    part x w n (ValueIdx.ix2 i j) = ∑ k : Fin 256, term x w i j (256 * n + k.val) := by
  pointwise [part]
  refine Finset.sum_congr rfl fun k _ => ?_
  refine congrArg₂ (· * ·) (congrArg x ?_) (tileW_at w n hn k j _ rfl)
  exact congrArg (ValueIdx.ix2 i) (Fin.ext (by dsimp only; rw [Nat.mod_eq_of_lt hn, Nat.mod_eq_of_lt (by omega)]))

/-- What the last tile contributes, read at an index: the products at its 128 positions, summed. -/
theorem lastPart_at (x : Vec Ideal S256x13184 .bf16) (w : Vec Ideal S3296x768 .i8) (i : Fin 256) (j : Fin 768) :
    lastPart x w (ValueIdx.ix2 i j) = ∑ k : Fin 128, term x w i j (13056 + k.val) := by
  pointwise [lastPart]
  refine Finset.sum_congr rfl fun k _ => ?_
  refine congrArg₂ (· * ·) (congrArg x ?_) (lastW_at w k j _ rfl)
  exact congrArg (ValueIdx.ix2 i) (Fin.ext (by dsimp only; omega))

/-- The running sum after tile `n`, read at an index: the products at positions `0` to `256 (n + 1) - 1`, summed. -/
theorem acc_at (x : Vec Ideal S256x13184 .bf16) (w : Vec Ideal S3296x768 .i8) (i : Fin 256) (j : Fin 768) (n : ℕ) (hn : n < 51) :
    acc x w n (ValueIdx.ix2 i j) = ∑ K ∈ Finset.range (256 * (n + 1)), term x w i j K := by
  induction n with
  | zero =>
    rw [acc, part_at x w 0 hn, Finset.sum_range]
    exact Finset.sum_congr rfl fun k _ => congrArg _ (by omega)
  | succ n ih =>
    rw [acc, show 256 * (n + 1 + 1) = 256 * (n + 1) + 256 by omega, Finset.sum_range_add, ← ih (by omega),
      Finset.sum_range, ← part_at x w (n + 1) hn]
    rfl

/-- The block the body stores, read at an index: all 13184 products summed, times the scale. -/
theorem block_at (s : Elt Ideal .f32) (x : Vec Ideal S256x13184 .bf16) (w : Vec Ideal S3296x768 .i8) (i : Fin 256) (j : Fin 768) :
    block s x w (ValueIdx.ix2 i j) = (∑ K ∈ Finset.range 13184, term x w i j K) * (show EReal from s) := by
  rw [show (13184 : ℕ) = 256 * (50 + 1) + 128 from rfl, Finset.sum_range_add, ← acc_at x w i j 50 (by decide), Finset.sum_range,
    ← lastPart_at x w i j]
  rfl

end Cert.KernelIdeal.Block

end
-- ==== Proof.Final.lean ====
/- The kernel's result array after the run: the block stored at point `t` of the grid is columns `768 t` to
   `768 t + 767` of one array, `result`, a closed formula over the arguments. -/
module

public import proofs.«01_k».proof.Proof.Trits
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Bytes

/-- The product at position `K` of the contracted axis, for row `i` and column `j` of the result: the activation times the
    weight that field `K / 3296` of the packed byte at row `K % 3296` stands for. -/
def prod (X : Vec Ideal S256x1x13184 .bf16) (W : Vec Ideal S3296x23808 .i8) (i : Fin 256) (j : Fin 23808) (K : ℕ) : EReal :=
  (show EReal from X (ValueIdx.ix3 i (0 : Fin 1) ⟨K % 13184, Nat.mod_lt _ (by decide)⟩))
    * trit (W (ValueIdx.ix2 ⟨K % 3296, Nat.mod_lt _ (by decide)⟩ j)) (K / 3296)

/-- The result as one formula: at row `i` and column `j`, the 13184 products summed, times the scale. -/
def result (X : Vec Ideal S256x1x13184 .bf16) (W : Vec Ideal S3296x23808 .i8) (s : Vec Ideal S_ .f32) : Vec Ideal S256x23808 .bf16 :=
  fun y => (∑ K ∈ Finset.range 13184, prod X W (y 0) (y 1) K) * (show EReal from s ValueIdx.ix0)

variable (m : (ℓ : Loc nD τ sig) → Buf (Elt Ideal) ℓ)

/-- Which block each window is at, at every point of the grid. -/
theorem idx : ∀ t : Fin cfg0.N, win0_0.index t = ![0] ∧ win0_1.index t = ![0, 0] ∧ win0_2.index t = ![0, t.val]
    ∧ win0_3.index t = ![0, t.val] :=
  (by decide +kernel : ∀ t : Fin grid0.N, _)

/-- When the grid starts, the scale's array holds the scale, reshaped. -/
theorem entry_scale (c : Dev nD) : V m c main_v0 = shapeCast S1 (m ((c : Thread nD τ).loc main_arg2)) shapeCasts_S_S1 := by
  show StableHlo.after hostOps0 (fun b => m (c, b)) (Proc.devRef .tc main_v0) = _
  after_results_simp
  rfl

/-- When the grid starts, the activations' array holds the activations, reshaped. -/
theorem entry_x (c : Dev nD) :
    V m c main_v1 = shapeCast S256x13184 (m ((c : Thread nD τ).loc main_arg0)) shapeCasts_S256x1x13184_S256x13184 := by
  show StableHlo.after hostOps0 (fun b => m (c, b)) (Proc.devRef .tc main_v1) = _
  after_results_simp
  rfl

/-- The scale window holds the scale at every point. -/
theorem scale_at (c : Dev nD) (t : Fin cfg0.N) :
    (iblk m c 0 t : Vec Ideal S1 .f32) (ValueIdx.ix1 (0 : Fin 1)) = (m ((c : Thread nD τ).loc main_arg2) : Vec Ideal S_ .f32) ValueIdx.ix0 := by
  blk_simp [iblk, idx t]
  refine (congrFun (entry_scale m c) _).trans ?_
  pointwise
  rfl

/-- The activation window holds all activations at every point. -/
theorem x_at (c : Dev nD) (t : Fin cfg0.N) (i : Fin 256) (k : Fin 13184) :
    (iblk m c 1 t : Vec Ideal S256x13184 .bf16) (ValueIdx.ix2 i k)
      = (m ((c : Thread nD τ).loc main_arg0) : Vec Ideal S256x1x13184 .bf16) (ValueIdx.ix3 i (0 : Fin 1) k) := by
  blk_simp [iblk, idx t]
  have e : (win0_1.blk t).view.emb (ValueIdx.ix2 i k) = ValueIdx.ix2 i k := by blk_ext [idx t]
  refine (congrArg _ e).trans ((congrFun (entry_x m c) _).trans ?_)
  refine shapeCast_apply (s := S256x1x13184) (t := S256x13184) (m ((c : Thread nD τ).loc main_arg0)) _ (ValueIdx.ix2 i k) (ValueIdx.ix3 i (0 : Fin 1) k) ?_
  rw [Shape.rowMajor_val_three, Shape.rowMajor_val_two]
  show (i.val * 1 + 0) * 13184 + k.val = i.val * 13184 + k.val
  omega

/-- The weight window holds columns `768 t` to `768 t + 767` of the packed weights at point `t`. -/
theorem w_at (c : Dev nD) (t : Fin cfg0.N) (r : Fin 3296) (j : Fin 768) (J : Fin 23808) (hJ : J.val = 768 * t.val + j.val) :
    (iblk m c 2 t : Vec Ideal S3296x768 .i8) (ValueIdx.ix2 r j)
      = (m ((c : Thread nD τ).loc main_arg1) : Vec Ideal S3296x23808 .i8) (ValueIdx.ix2 r J) := by
  blk_ext [iblk, V, idx t]
  show t.val * 768 + j.val = J.val
  omega

/-- At row `i` and column `j` of the block at point `t`, the products are those of the result's column `768 t + j`. -/
theorem term_eq (c : Dev nD) (t : Fin cfg0.N) (i : Fin 256) (j : Fin 768) (J : Fin 23808) (hJ : J.val = 768 * t.val + j.val) (K : ℕ) :
    term (iblk m c 1 t) (iblk m c 2 t) i j K
      = prod (m ((c : Thread nD τ).loc main_arg0)) (m ((c : Thread nD τ).loc main_arg1)) i J K :=
  congrArg₂ (· * ·) (x_at m c t i _) (congrArg (fun b => trit b (K / 3296)) (w_at m c t _ j J hJ))

/-- What the body stores at point `t`, read at row `i` and column `j`, is the result at row `i` and column `768 t + j`. -/
theorem stored_at (c : Dev nD) (t : Fin cfg0.N) (i : Fin 256) (j : Fin 768) (J : Fin 23808) (hJ : J.val = 768 * t.val + j.val) :
    block ((iblk m c 0 t : Vec Ideal S1 .f32) (ValueIdx.ix1 (0 : Fin 1))) (iblk m c 1 t) (iblk m c 2 t) (ValueIdx.ix2 i j)
      = result (m ((c : Thread nD τ).loc main_arg0)) (m ((c : Thread nD τ).loc main_arg1)) (m ((c : Thread nD τ).loc main_arg2))
          (ValueIdx.ix2 i J) := by
  rw [block_at]
  exact congrArg₂ (· * ·) (Finset.sum_congr rfl fun K _ => term_eq m c t i j J hJ K) (scale_at m c t)

/-- The result array after the run is `result` of the arguments. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 31 := t.isLt
  obtain ⟨i, j, rfl⟩ : ∃ (i : Fin 256) (j : Fin 768), y = ValueIdx.ix2 i j := ⟨y 0, y 1, ValueIdx.eq_ix2 y⟩
  unfold outsAt0
  rw [out_eq]
  refine (stored_at m c t i j ⟨768 * t.val + j.val, by omega⟩ rfl).trans (congrArg _ ?_)
  blk_ext [idx t]
  show 768 * t.val + j.val = t.val * 768 + j.val
  omega

/-- After the grid, the kernel reshapes its result array: an axis of size one is put in the middle. -/
theorem tail_result (c : Dev nD) :
    Pipeline.afterTail₀ cfgs (dats m) 0 (V0 m) [hostOps1] c main_v3
      = shapeCast S256x1x23808 (result (m ((c : Thread nD τ).loc main_arg0)) (m ((c : Thread nD τ).loc main_arg1))
          (m ((c : Thread nD τ).loc main_arg2))) shapeCasts_S256x23808_S256x1x23808 := by
  have e : Pipeline.withArrays (cfgs 0).spec c (V0 m c) (fun w => (dats m 0 c).arrAt w (cfgs 0).N) (Proc.devRef .tc main_v2)
      = (dats m 0 c).arrAt 3 (cfgs 0).N :=
    Pipeline.withArrays_arr (cfgs 0).spec (by decide) c (V0 m c) (fun w => (dats m 0 c).arrAt w (cfgs 0).N) 3
  rw [← final m c, ← e]
  unfold Pipeline.afterTail₀
  show StableHlo.after hostOps1 _ (Proc.devRef .tc main_v3) = _
  after_results_simp
  rfl

/-- The kernel runs and ends with its result at the formula `result` of its arguments, reshaped, and its arguments
    unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
        = shapeCast S256x1x23808 (result (m ((c : Thread nD τ).loc main_arg0)) (m ((c : Thread nD τ).loc main_arg1))
          (m ((c : Thread nD τ).loc main_arg2))) shapeCasts_S256x23808_S256x1x23808
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v3 (Pipeline.mem_restRefs_of main_v3 (by decide) (by decide))).trans
      (tail_result m c), h.2 c⟩)
    (θ_run_and (run_main m ρ) (unchanged m ρ))

end Cert.KernelIdeal.Block

end
-- ==== Proof.Reference.lean ====
/- The reference's result: each of its four fields is a sum of 3296 products, and the four sums laid end to end are
   the one sum of 13184 products that the kernel's result array is. -/
module

public import proofs.«01_k».proof.Proof.Final
public import proofs.«01_k».proof.Proof.Gen.ReferenceIdeal.Read
public import Idealize.ShloMosaic.Lib.IdealHost
public import Idealize.ShloMosaic.Lib.Quiescent

@[expose] public section

set_option maxRecDepth 16384

noncomputable section

open Idealize.ShloMosaic Idealize.ShloMosaic.TcCoe Idealize.SL.Sem

namespace Cert.ReferenceIdeal.Result

open Cert.ReferenceIdeal Cert.ReferenceIdeal.Gen Cert.ReferenceIdeal.Read Cert.Bytes
open Cert.KernelIdeal.Block (shrui_ofNat prod result)

/-- The reference's weight: a packed byte widened to a word, shifted to field `f`, masked to two bits, as a number, minus
    one. It is the weight that field `f` of the byte stands for. -/
theorem weight (b : BitVec 8) (f : ℕ) (hf : f < 4) :
    (FloatOps.subf (F := Ideal) (FloatOps.uitofp (F := Ideal) .bf16
      (IntOp.andi (IntOp.shrui .host (b.setWidth 32) (BitVec.ofNat 32 (2 * f))) 3#32)) (FloatOps.ofBits (F := Ideal) .bf16 0x3F80#16) : EReal)
      = trit b f := by
  rw [shrui_ofNat _ _ _ (by omega)]
  show ((((b.setWidth 32 >>> (2 * f)) &&& 3#32).toNat : ℝ) : EReal) - Ideal.ofBits .bf16 0x3F80#16 = _
  rw [toNat_field_wide b f hf, Ideal.ofBits_one_bf16]
  unfold trit
  rw [EReal.coe_sub]
  rfl

variable (X : Vec Ideal S256x1x13184 .bf16) (W : Vec Ideal S3296x23808 .i8) (s : Vec Ideal S_ .f32)

/-- The products of one field, summed: a sum over the 3296 packed rows whose left factors are the activations at positions
    `3296 f + k` and whose right factors are the weights that field `f` of the packed bytes stands for. -/
theorem field_sum (i : Fin 256) (j : Fin 23808) (f : ℕ) (hf : f < 4) (a b : Fin 3296 → EReal)
    (ha : ∀ k, a k = X (ValueIdx.ix3 i (0 : Fin 1) ⟨3296 * f + k.val, by omega⟩)) (hb : ∀ k, b k = trit (W (ValueIdx.ix2 k j)) f) :
    ∑ k, a k * b k = ∑ K ∈ Finset.range 3296, prod X W i j (3296 * f + K) := by
  rw [Finset.sum_range]
  refine Finset.sum_congr rfl fun k _ => ?_
  rw [ha k, hb k]
  unfold prod
  have e : (3296 * f + k.val) / 3296 = f := by omega
  rw [e]
  refine congrArg₂ (· * ·) (congrArg X (congrArg (ValueIdx.ix3 i (0 : Fin 1)) (Fin.ext ?_)))
    (congrArg (fun r => trit (W (ValueIdx.ix2 r j)) f) (Fin.ext ?_))
  · show 3296 * f + k.val = (3296 * f + k.val) % 13184
    omega
  · show k.val = (3296 * f + k.val) % 3296
    omega

/-- The reference's weight for column `j` of the result at row `k` of the packed bytes: the weight that field `f` of that
    byte stands for. -/
theorem weight_at (i : Fin 256) (j : Fin 23808) (f : ℕ) (hf : f < 4) (k : Fin 3296) :
    (FloatOps.subf (F := Ideal) (FloatOps.uitofp (F := Ideal) .bf16
      (IntOp.andi (IntOp.shrui .host ((W (ridx_main_v9 (ValueIdx.ix3 i (0 : Fin 1) j) k)).setWidth 32) (BitVec.ofNat 32 (2 * f))) 3#32))
        (FloatOps.ofBits (F := Ideal) .bf16 0x3F80#16) : EReal)
      = trit (W (ValueIdx.ix2 k j)) f :=
  (weight _ f hf).trans (congrArg (fun y => trit (W y) f) (by blk_ext))

/-- The four fields of the reference, summed in order, are the 13184 products summed. -/
theorem fields_at (i : Fin 256) (j : Fin 23808) :
    (val_main_v39 (F := Ideal) X W (ValueIdx.ix3 i (0 : Fin 1) j) : EReal) = ∑ K ∈ Finset.range 13184, prod X W i j K := by
  have h0 := (val_main_v9_apply X W (ValueIdx.ix3 i (0 : Fin 1) j)).trans (field_sum X W i j 0 (by decide) _ _
    (fun k => (val_main_v8_apply X _).trans (by blk_ext)) (weight_at W i j 0 (by decide)))
  have h1 := (val_main_v18_apply X W (ValueIdx.ix3 i (0 : Fin 1) j)).trans (field_sum X W i j 1 (by decide) _ _
    (fun k => (val_main_v17_apply X _).trans (by blk_ext)) (weight_at W i j 1 (by decide)))
  have h2 := (val_main_v28_apply X W (ValueIdx.ix3 i (0 : Fin 1) j)).trans (field_sum X W i j 2 (by decide) _ _
    (fun k => (val_main_v27_apply X _).trans (by blk_ext)) (weight_at W i j 2 (by decide)))
  have h3 := (val_main_v38_apply X W (ValueIdx.ix3 i (0 : Fin 1) j)).trans (field_sum X W i j 3 (by decide) _ _
    (fun k => (val_main_v37_apply X _).trans (by blk_ext)) (weight_at W i j 3 (by decide)))
  rw [show (13184 : ℕ) = 3296 + 3296 + 3296 + 3296 from rfl, Finset.sum_range_add, Finset.sum_range_add, Finset.sum_range_add]
  rw [val_main_v39_apply, val_main_v29_apply, val_main_v19_apply]
  refine congrArg₂ (· + ·) (congrArg₂ (· + ·) (congrArg₂ (· + ·) (h0.trans ?_) (h1.trans ?_)) (h2.trans ?_)) (h3.trans ?_) <;>
    exact Finset.sum_congr rfl fun K _ => congrArg _ (by omega)

/-- The reference's result array is the formula `result` of its arguments, with an axis of size one put in the middle. -/
theorem value (h : Cert.KernelIdeal.S256x23808.ShapeCasts S256x1x23808) :
    val_main_v42 (F := Ideal) X W s = shapeCast S256x1x23808 (result X W s) h := by
  funext y
  obtain ⟨i, o, j, rfl⟩ : ∃ (i : Fin 256) (o : Fin 1) (j : Fin 23808), y = ValueIdx.ix3 i o j := ⟨y 0, y 1, y 2, ValueIdx.eq_ix3 y⟩
  obtain rfl : o = 0 := Subsingleton.elim _ _
  rw [val_main_v42_apply, val_main_v41_apply]
  refine Eq.trans ?_ (shapeCast_apply (result X W s) h (ValueIdx.ix3 i (0 : Fin 1) j) (ValueIdx.ix2 i j) ?_).symm
  · refine congrArg₂ (· * ·) (fields_at X W i j) ?_
    exact (val_main_v40_apply s _).trans (by blk_ext)
  · rw [Shape.rowMajor_val_three, Shape.rowMajor_val_two]
    show i.val * 23808 + j.val = (i.val * 1 + 0) * 23808 + j.val
    omega

/-- The reference runs and ends with its result at the formula `result` of its arguments, reshaped, and its arguments
    unchanged. -/
theorem run (h : Cert.KernelIdeal.S256x23808.ShapeCasts S256x1x23808) (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
        = shapeCast S256x1x23808 (result (m ((c.tc : Thread nD τ).loc main_arg0)) (m ((c.tc : Thread nD τ).loc main_arg1))
          (m ((c.tc : Thread nD τ).loc main_arg2))) h
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ k c => ⟨(k c).1.trans ((val_main_v42_eq _ _ _).trans (value _ _ _ h)), (k c).2⟩)
    (Cert.ReferenceIdeal.Value.run m ρ)

/-- The reference runs, leaves its arguments unchanged, and ends with every semaphore at zero: it has none. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.ReferenceIdeal.Value.run m ρ)

end Cert.ReferenceIdeal.Result

end
-- ==== Proof.lean ====
/- The five claims about the ternary linear layer. The kernel's result is the formula
   `Cert.KernelIdeal.Block.result` of the arguments, reshaped (Proof/Final.lean), and so is the reference's
   (Proof/Reference.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- From arguments that agree, the kernel and the reference both run and end with equal results: each result is
    `Cert.KernelIdeal.Block.result` of the arguments, reshaped. -/
theorem algebraic [Cert.KernelIdeal.Facts] [Cert.ReferenceIdeal.Facts] : Cert.algebraic_KernelIdeal_ReferenceIdeal := by
  intro m g m' g' _ hargs
  refine ⟨_, Cert.KernelIdeal.Block.run m g,
    (θ_run _ _ _).mono (fun _ h c => ⟨(h c).1.trans ?_, (h c).2⟩)
      (Cert.ReferenceIdeal.Result.run Cert.KernelIdeal.Gen.shapeCasts_S256x23808_S256x1x23808 m' g')⟩
  obtain ⟨h0, h1, h2⟩ := hargs c
  rw [h0, h1, h2]

/-- The five claims: the three programs run and leave their arguments and semaphores as they found them, the idealized
    kernel is the kernel's own text, and it computes the reference's result. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => Cert.ReferenceIdeal.Result.frame m g,
  trivial,
  algebraic⟩

end Cert.Proof

end
